-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x481 : Shape := ⟨3, ![32, 4096, 481]⟩
abbrev S32x481 : Shape := ⟨2, ![32, 481]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S481x32x4096 : Shape := ⟨3, ![481, 32, 4096]⟩
abbrev S481x32 : Shape := ⟨2, ![481, 32]⟩
abbrev S37x416x1 : Shape := ⟨3, ![37, 416, 1]⟩
abbrev S13x32x4096 : Shape := ⟨3, ![13, 32, 4096]⟩
abbrev S1x416x1 : Shape := ⟨3, ![1, 416, 1]⟩
abbrev S416x1 : Shape := ⟨2, ![416, 1]⟩
abbrev S13x32x256 : Shape := ⟨3, ![13, 32, 256]⟩
abbrev S416x256 : Shape := ⟨2, ![416, 256]⟩

abbrev nBuf : Space → Nat
  | .hbm => 37
  | .vmem => 10
  | .smem => 0
  | _ => 0

abbrev bufTy : (tb : Table) → Fin (tcTables nBuf tb) → BufTy
  | .hbm, ⟨0, _⟩ => ⟨S32x4096x481, .f32⟩
  | .hbm, ⟨1, _⟩ => ⟨S32x481, .f32⟩
  | .hbm, ⟨2, _⟩ => ⟨S256, .i32⟩
  | .hbm, ⟨3, _⟩ => ⟨S1x256, .i32⟩
  | .hbm, ⟨4, _⟩ => ⟨S256x1, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i1⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S1x256, .f32⟩
  | .hbm, ⟨32, _⟩ => ⟨S481x32x4096, .f32⟩
  | .hbm, ⟨33, _⟩ => ⟨S481x32, .f32⟩
  | .hbm, ⟨34, _⟩ => ⟨S37x416x1, .f32⟩
  | .hbm, ⟨35, _⟩ => ⟨S481x32x4096, .f32⟩
  | .hbm, ⟨36, _⟩ => ⟨S32x4096x481, .f32⟩
  | .local _ .vmem, ⟨0, _⟩ => ⟨S13x32x4096, .f32⟩
  | .local _ .vmem, ⟨1, _⟩ => ⟨S13x32x4096, .f32⟩
  | .local _ .vmem, ⟨2, _⟩ => ⟨S1x416x1, .f32⟩
  | .local _ .vmem, ⟨3, _⟩ => ⟨S1x416x1, .f32⟩
  | .local _ .vmem, ⟨4, _⟩ => ⟨S256x256, .f32⟩
  | .local _ .vmem, ⟨5, _⟩ => ⟨S1x256, .f32⟩
  | .local _ .vmem, ⟨6, _⟩ => ⟨S13x32x4096, .f32⟩
  | .local _ .vmem, ⟨7, _⟩ => ⟨S13x32x4096, .f32⟩
  | .local _ .vmem, ⟨8, _⟩ => ⟨S416x1, .f32⟩
  | .local _ .vmem, ⟨9, _⟩ => ⟨S416x1, .f32⟩
  | _, _ => ⟨S32x4096x481, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![37, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S13x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x416x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S13x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x4096x481 : Shape := ⟨3, ![32, 4096, 481]⟩
abbrev S32x481 : Shape := ⟨2, ![32, 481]⟩
abbrev S_ : Shape := ⟨0, ![]⟩
abbrev S4096x32x481 : Shape := ⟨3, ![4096, 32, 481]⟩
abbrev S1x32x481 : Shape := ⟨3, ![1, 32, 481]⟩

abbrev nBuf : Space → Nat
  | .hbm => 48
  | .vmem => 0
  | .smem => 0
  | _ => 0

abbrev bufTy : (tb : Table) → Fin (tcTables nBuf tb) → BufTy
  | .hbm, ⟨0, _⟩ => ⟨S32x4096x481, .f32⟩
  | .hbm, ⟨1, _⟩ => ⟨S32x481, .f32⟩
  | .hbm, ⟨2, _⟩ => ⟨S_, .f32⟩
  | .hbm, ⟨3, _⟩ => ⟨S32x481, .f32⟩
  | .hbm, ⟨4, _⟩ => ⟨S4096x32x481, .f32⟩
  | .hbm, ⟨5, _⟩ => ⟨S_, .f32⟩
  | .hbm, ⟨6, _⟩ => ⟨S4096x32x481, .f32⟩
  | .hbm, ⟨7, _⟩ => ⟨S_, .i32⟩
  | .hbm, ⟨8, _⟩ => ⟨S4096x32x481, .f32⟩
  | .hbm, ⟨9, _⟩ => ⟨S_, .i32⟩
  | .hbm, ⟨10, _⟩ => ⟨S32x481, .f32⟩
  | .hbm, ⟨11, _⟩ => ⟨S32x481, .f32⟩
  | .hbm, ⟨12, _⟩ => ⟨S4096x32x481, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x32x481, .f32⟩
  | .hbm, ⟨18, _⟩ => ⟨S32x481, .f32⟩
  | .hbm, ⟨19, _⟩ => ⟨S_, .f32⟩
  | .hbm, ⟨20, _⟩ => ⟨S32x481, .f32⟩
  | .hbm, ⟨21, _⟩ => ⟨S32x481, .f32⟩
  | .hbm, ⟨22, _⟩ => ⟨S_, .f32⟩
  | .hbm, ⟨23, _⟩ => ⟨S32x481, .f32⟩
  | .hbm, ⟨24, _⟩ => ⟨S32x481, .f32⟩
  | .hbm, ⟨25, _⟩ => ⟨S32x481, .f32⟩
  | .hbm, ⟨26, _⟩ => ⟨S_, .f32⟩
  | .hbm, ⟨27, _⟩ => ⟨S32x481, .f32⟩
  | .hbm, ⟨28, _⟩ => ⟨S32x481, .f32⟩
  | .hbm, ⟨29, _⟩ => ⟨S32x481, .f32⟩
  | .hbm, ⟨30, _⟩ => ⟨S32x481, .f32⟩
  | .hbm, ⟨31, _⟩ => ⟨S_, .f32⟩
  | .hbm, ⟨32, _⟩ => ⟨S32x481, .f32⟩
  | .hbm, ⟨33, _⟩ => ⟨S32x481, .f32⟩
  | .hbm, ⟨34, _⟩ => ⟨S32x481, .f32⟩
  | .hbm, ⟨35, _⟩ => ⟨S32x481, .f32⟩
  | .hbm, ⟨36, _⟩ => ⟨S32x481, .f32⟩
  | .hbm, ⟨37, _⟩ => ⟨S_, .f32⟩
  | .hbm, ⟨38, _⟩ => ⟨S32x481, .f32⟩
  | .hbm, ⟨39, _⟩ => ⟨S32x481, .f32⟩
  | .hbm, ⟨40, _⟩ => ⟨S32x481, .f32⟩
  | .hbm, ⟨41, _⟩ => ⟨S1x32x481, .f32⟩
  | .hbm, ⟨42, _⟩ => ⟨S_, .i32⟩
  | .hbm, ⟨43, _⟩ => ⟨S_, .i32⟩
  | .hbm, ⟨44, _⟩ => ⟨S4096x32x481, .f32⟩
  | .hbm, ⟨45, _⟩ => ⟨S_, .i32⟩
  | .hbm, ⟨46, _⟩ => ⟨S_, .i32⟩
  | .hbm, ⟨47, _⟩ => ⟨S32x4096x481, .f32⟩
  | _, _ => ⟨S32x4096x481, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_5 : Ref sig .tc := ⟨.hbm, 13, rfl⟩
abbrev main_while0c_v5 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v5 : Ref sig .tc := ⟨.hbm, 18, rfl⟩
abbrev main_while0b_cst_5 : Ref sig .tc := ⟨.hbm, 19, rfl⟩
abbrev main_while0b_v6 : Ref sig .tc := ⟨.hbm, 20, rfl⟩
abbrev main_while0b_v7 : Ref sig .tc := ⟨.hbm, 21, rfl⟩
abbrev main_while0b_cst_6 : Ref sig .tc := ⟨.hbm, 22, rfl⟩
abbrev main_while0b_v8 : Ref sig .tc := ⟨.hbm, 23, rfl⟩
abbrev main_while0b_v9 : Ref sig .tc := ⟨.hbm, 24, rfl⟩
abbrev main_while0b_v10 : Ref sig .tc := ⟨.hbm, 25, rfl⟩
abbrev main_while0b_cst_7 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_cst_8 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_cst_9 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_call1_v0 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_v23 : Ref sig .tc := ⟨.hbm, 44, rfl⟩
abbrev main_while0b_c_10 : Ref sig .tc := ⟨.hbm, 45, rfl⟩
abbrev main_while0b_v24 : Ref sig .tc := ⟨.hbm, 46, rfl⟩
abbrev main_v4 : Ref sig .tc := ⟨.hbm, 47, rfl⟩

abbrev nD : Nat := 1
abbrev τ : Topo := Topo.v7x

variable {F : FTy → Type} [FloatOps F]

abbrev main_while0_count : Scf.Loop 32 := ⟨0#32, 4096#32, 1#32⟩
-- ==== Proof.Body.lean ====
/-
  What one grid point of the kernel leaves in its output block. The body walks the 4096 time steps in sixteen
  tiles of 256; each tile reads the two carried columns (running mean, running variance), writes its tile of the
  output and stores the carries for the next. Here the sixteen tiles are ONE recursion on the tile's number:
  `muCol n`, `varCol n` are the columns before tile `n`, `tileOut n` is what tile `n` writes.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem tile_inb {n : Nat} (h : n < 16) :
    ∀ d, (![0, 0, 256 * n] : Fin 3 → Nat) d + S13x32x256.size d ≤ S13x32x4096.size d := by
  intro d
  fin_cases d
  · show 0 + 13 ≤ 13; omega
  · show 0 + 32 ≤ 32; omega
  · show 256 * n + 256 ≤ 4096; omega

/-- Tile `n` of the input block: its time steps `256 n … 256 n + 255`. -/
def tileIn (x : Vec F S13x32x4096 .f32) (n : Nat) : Vec F S13x32x256 .f32 :=
  View.ld x (Rect.unit ![0, 0, 256 * (n % 16)] S13x32x256.size (tile_inb (Nat.mod_lt n (by decide))))

/-- The running mean's column before tile `n`. -/
def muCol (x : Vec F S13x32x4096 .f32) (m0 : Vec F S1x416x1 .f32) (U : Vec F S256x256 .f32) (a : Vec F S1x256 .f32) :
    Nat → Vec F S416x1 .f32
  | 0 => k0_pay2 m0
  | n + 1 => k0_pay11 U a (tileIn x n) (muCol x m0 U a n)

/-- The running variance's column before tile `n`. -/
def varCol (x : Vec F S13x32x4096 .f32) (m0 : Vec F S1x416x1 .f32) (U : Vec F S256x256 .f32) (a : Vec F S1x256 .f32) :
    Nat → Vec F S416x1 .f32
  | 0 => k0_pay3
  | n + 1 => k0_pay12 (k0_pay9 U a (tileIn x n) (muCol x m0 U a n) (varCol x m0 U a n))

/-- What tile `n` writes. -/
def tileOut (x : Vec F S13x32x4096 .f32) (m0 : Vec F S1x416x1 .f32) (U : Vec F S256x256 .f32) (a : Vec F S1x256 .f32)
    (n : Nat) : Vec F S13x32x256 .f32 :=
  k0_pay10 U a (tileIn x n) (muCol x m0 U a n) (varCol x m0 U a n)

/-- The writes of the first `n` tiles, the last first. -/
def tiles (P : Nat → Vec F S13x32x256 .f32) : (n : Nat) → n ≤ 16 → List (View.Piece (Elt F) S13x32x4096 .f32)
  | 0, _ => []
  | n + 1, h => ⟨Rect.unit ![0, 0, 256 * n] S13x32x256.size (tile_inb h), P n⟩ :: tiles P n (Nat.le_of_succ_le h)

theorem off2 : (![0, 0] : Fin 2 → Nat) = fun _ => 0 := funext fun a => by fin_cases a <;> rfl
theorem off3 : (![0, 0, 0] : Fin 3 → Nat) = fun _ => 0 := funext fun a => by fin_cases a <;> rfl

/-- Tile `n` at an index. -/
theorem tileIn_apply (x : Vec F S13x32x4096 .f32) (n : Nat) (hn : n < 16) (p : Fin 13) (q : Fin 32) (s : Fin 256) :
    tileIn x n (ix3 p q s) = x (ix3 p q ⟨256 * n + s.val, by omega⟩) := by
  unfold tileIn
  rw [View.ld_unit]
  show x _ = x _
  congr 1
  funext d
  apply Fin.ext
  fin_cases d
  · show 0 + p.val = p.val; omega
  · show 0 + q.val = q.val; omega
  · show 256 * (n % 16) + s.val = 256 * n + s.val
    rw [Nat.mod_eq_of_lt hn]

/-- Reading a column back gives the last store to it. -/
theorem col_last (v : View sig .tc .vmem S416x1 .f32) (inb : ∀ a, (![0, 0] : Fin 2 → Nat) a + S416x1.size a ≤ S416x1.size a)
    (w : S416x1.Idx → Elt F .f32) (L : List (View.Piece (Elt F) S416x1 .f32)) :
    v.readCov ((⟨Rect.unit ![0, 0] (no_index S416x1.size) inb, w⟩ : View.Piece (Elt F) S416x1 .f32) :: L)
      (Rect.unit ![0, 0] (no_index S416x1.size) inb).toLoadRect = w :=
  View.readCov_cons_unit_lit' v inb inb w L (fun a => congrFun off2 a) (fun a => congrFun off2 a)

/-- At a time step of one of the first `n` tiles, the contents those tiles leave are that tile's. -/
theorem canon_tiles (P : Nat → Vec F S13x32x256 .f32) (p : Fin 13) (q : Fin 32) (t : Fin 4096) :
    ∀ (n : Nat) (h : n ≤ 16), t.val < 256 * n → View.canon (tiles P n h) (ix3 p q t)
      = P (t.val / 256) (ix3 p q ⟨t.val % 256, Nat.mod_lt _ (by decide)⟩)
  | 0, _, ht => absurd ht (by omega)
  | n + 1, h, ht => by
    unfold tiles
    by_cases hlt : t.val < 256 * n
    · rw [View.canon_cons_of_not_mem _ _ fun hm => by
        have hm : ix3 p q t ∈ (Rect.unit (s := S13x32x4096) ![0, 0, 256 * n] S13x32x256.size (tile_inb h)).set := hm
        have := (Rect.mem_set_unit.mp hm (2 : Fin 3)).1
        exact absurd (show 256 * n ≤ t.val from this) (by omega)]
      exact canon_tiles P p q t n _ hlt
    · have hdiv : t.val / 256 = n := by omega
      have hmod : 256 * n + t.val % 256 = t.val := by omega
      have e : (Rect.unit (s := S13x32x4096) ![0, 0, 256 * n] S13x32x256.size (tile_inb h)).emb
          (ix3 p q ⟨t.val % 256, Nat.mod_lt _ (by decide)⟩) = ix3 p q t := by
        funext d
        apply Fin.ext
        fin_cases d
        · show 0 + 1 * p.val = p.val; omega
        · show 0 + 1 * q.val = q.val; omega
        · show 256 * n + 1 * (t.val % 256) = t.val; omega
      rw [← e, View.canon_cons_emb, hdiv]

/-- The sixteen writes of the body, in the order made, are those of the recursion. -/
theorem pieces_eq (c : Dev nD) (i : grid0.Coords) (arg2 : Memref sig .tc .vmem S13x32x4096 .f32) (harg2 : arg2.IsWhole)
    (arg3 : Memref sig .tc .vmem S1x416x1 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S13x32x4096 .f32) (harg6 : arg6.IsWhole)
    (arg7 : Memref sig .tc .vmem S416x1 .f32) (harg7 : arg7.IsWhole) (arg8 : Memref sig .tc .vmem S416x1 .f32) (harg8 : arg8.IsWhole)
    (hc0 : cond0_0 i) (x : Vec F S13x32x4096 .f32) (m0 : Vec F S1x416x1 .f32) (U : Vec F S256x256 .f32) (a : Vec F S1x256 .f32) :
    (kernelRun0_A c i arg2 harg2 arg3 harg3 arg4 harg4 arg5 harg5 arg6 harg6 arg7 harg7 arg8 harg8 hc0 x m0 U a).1
      = tiles (tileOut x m0 U a) 16 le_rfl := by
  unfold kernelRun0_A
  dsimp only
  sl_unfold_words
  simp only [View.readAt_eq_ld, harg2.read_unread, harg3.read_unread, harg4.read_unread, harg5.read_unread,
    View.ld_unit_zero (S := S256x256) off2, View.ld_unit_zero (S := S1x256) off2, View.ld_unit_zero (S := S1x416x1) off3, col_last]
  rfl

/-- What the body leaves in its output block, at an index. -/
theorem out_apply (c : Dev nD) (i : grid0.Coords) (arg2 : Memref sig .tc .vmem S13x32x4096 .f32) (harg2 : arg2.IsWhole)
    (arg3 : Memref sig .tc .vmem S1x416x1 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S13x32x4096 .f32) (harg6 : arg6.IsWhole)
    (arg7 : Memref sig .tc .vmem S416x1 .f32) (harg7 : arg7.IsWhole) (arg8 : Memref sig .tc .vmem S416x1 .f32) (harg8 : arg8.IsWhole)
    (hc0 : cond0_0 i) (x : Vec F S13x32x4096 .f32) (m0 : Vec F S1x416x1 .f32) (U : Vec F S256x256 .f32) (a : Vec F S1x256 .f32)
    (p : Fin 13) (q : Fin 32) (t : Fin 4096) :
    out0_A_4 c i arg2 harg2 arg3 harg3 arg4 harg4 arg5 harg5 arg6 harg6 arg7 harg7 arg8 harg8 hc0 x m0 U a (ix3 p q t)
      = tileOut x m0 U a (t.val / 256) (ix3 p q ⟨t.val % 256, Nat.mod_lt _ (by decide)⟩) := by
  unfold out0_A_4
  rw [View.read_writes_eq_canon _ _ _ (cover0_A_4 c i arg2 harg2 arg3 harg3 arg4 harg4 arg5 harg5 arg6 harg6 arg7 harg7 arg8 harg8 hc0 x m0 U a),
    pieces_eq, canon_tiles _ p q t 16 le_rfl t.isLt]

end Cert.KernelIdeal.Body
-- ==== Proof.Ema.lean ====
/-
  The arithmetic of the exponential moving average, over the extended reals. `ema α β c x n` is the average after
  `n` samples, started at `c`: one step is `α · ema + β · x n`. The kernel reads a whole tile at once from a table of
  powers; `ema_tile` is why that is the same number: for finite nonnegative `α` and `β` the steps unroll to
  `α ^ (s + 1) · c` plus a weighted sum of the tile's samples, whatever the samples are (infinite ones included).
-/
module

public import Mathlib.Data.EReal.Operations
public import Mathlib.Data.EReal.Inv
public import Mathlib.Algebra.BigOperators.Fin

@[expose] public section

noncomputable section

open scoped BigOperators

namespace Cert.Ema

/-- The average after `n` samples of `x`, started at `c`. -/
def ema (α β c : EReal) (x : ℕ → EReal) : ℕ → EReal
  | 0 => c
  | n + 1 => α * ema α β c x n + β * x n

/-- The samples from `n` on, started at the average after `n` samples, give the same averages. -/
theorem ema_add (α β c : EReal) (x : ℕ → EReal) (n k : ℕ) :
    ema α β c x (n + k) = ema α β (ema α β c x n) (fun i => x (n + i)) k := by
  induction k with
  | zero => rfl
  | succ k ih => show α * ema α β c x (n + k) + β * x (n + k) = _; rw [ih]; rfl

/-- Only the samples read so far matter. -/
theorem ema_congr (α β c : EReal) {x y : ℕ → EReal} {n : ℕ} (h : ∀ i < n, x i = y i) :
    ema α β c x n = ema α β c y n := by
  induction n with
  | zero => rfl
  | succ n ih =>
    show α * ema α β c x n + β * x n = α * ema α β c y n + β * y n
    rw [ih fun i hi => h i (Nat.lt_succ_of_lt hi), h n (Nat.lt_succ_self n)]

/-- A finite nonnegative factor distributes over a sum. -/
theorem coe_mul_sum {r : ℝ} (hr : 0 ≤ r) (s : Finset ℕ) (f : ℕ → EReal) :
    (r : EReal) * ∑ i ∈ s, f i = ∑ i ∈ s, (r : EReal) * f i := by
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The weight of sample `i` in the average after sample `s`. -/
def weight (α β : EReal) (i s : ℕ) : EReal := if i ≤ s then β * α ^ (s - i) else 0

theorem ema_unroll {α β : ℝ} (hα : 0 ≤ α) (c : EReal) (x : ℕ → EReal) (s : ℕ) :
    ema α β c x (s + 1)
      = (α : EReal) ^ (s + 1) * c + ∑ i ∈ Finset.range (s + 1), x i * ((β : EReal) * (α : EReal) ^ (s - i)) := by
  induction s with
  | zero => simp [ema, mul_comm]
  | succ s ih =>
    show (α : EReal) * ema α β c x (s + 1) + β * x (s + 1) = _
    rw [ih, EReal.left_distrib_of_nonneg_of_ne_top (EReal.coe_nonneg.mpr hα) (EReal.coe_ne_top α), coe_mul_sum hα,
      Finset.sum_range_succ _ (s + 1), add_assoc]
    congr 1
    · rw [← mul_assoc, ← pow_succ']
    · congr 1
      · refine Finset.sum_congr rfl fun i hi => ?_
        have hi : i ≤ s := Nat.lt_succ_iff.mp (Finset.mem_range.mp hi)
        rw [show s + 1 - i = (s - i) + 1 by omega, pow_succ]
        rw [mul_left_comm, mul_left_comm (α : EReal), mul_comm (α : EReal)]
      · rw [Nat.sub_self, pow_zero, mul_one, mul_comm]

/-- A tile of `n` samples at once: the average after sample `s` of the tile is the power of the starting value plus the
    weighted sum over the WHOLE tile, the later samples' weights being zero. -/
theorem ema_tile {α β : ℝ} (hα : 0 ≤ α) (c : EReal) (x : ℕ → EReal) {n s : ℕ} (hs : s < n) :
    ema α β c x (s + 1) = (α : EReal) ^ (s + 1) * c + ∑ i : Fin n, x i * weight α β i s := by
  rw [ema_unroll hα, Fin.sum_univ_eq_sum_range (fun i => x i * weight α β i s) n]
  congr 1
  have hsub : Finset.range (s + 1) ⊆ Finset.range n := fun i hi =>
    Finset.mem_range.mpr (lt_of_lt_of_le (Finset.mem_range.mp hi) hs)
  rw [← Finset.sum_subset hsub fun i _ hi => by
    have : ¬ i ≤ s := fun h => hi (Finset.mem_range.mpr (Nat.lt_succ_of_le h))
    rw [weight, if_neg this, mul_zero]]
  refine Finset.sum_congr rfl fun i hi => ?_
  rw [weight, if_pos (Nat.lt_succ_iff.mp (Finset.mem_range.mp hi))]

end Cert.Ema
-- ==== Proof.Spec.lean ====
/-
  What both programs compute for one (batch entry, feature) pair, as a function of its samples: the deviation of each
  sample from the running mean that includes it, over the running standard deviation plus `ε`.
-/
module

public import proofs.«01_k».proof.Proof.Ema
public import Idealize.ShloMosaic.PureOps.Ideal.Laws
public import Idealize.ShloMosaic.Lib.Pointwise

@[expose] public section

noncomputable section

open Idealize.ShloMosaic

namespace Cert.Ema

/-- Sample `t` less the running mean that includes it. -/
def dev (α β c : EReal) (x : ℕ → EReal) (t : ℕ) : EReal := x t - ema α β c x (t + 1)

/-- The running variance after `n` samples, started at `v`. -/
def var (α β c v : EReal) (x : ℕ → EReal) (n : ℕ) : EReal := ema α β v (fun t => dev α β c x t * dev α β c x t) n

/-- The normalised sample `t`. -/
def normed (α β c v ε : EReal) (x : ℕ → EReal) (t : ℕ) : EReal :=
  Ideal.div (dev α β c x t) (Ideal.sqrt (var α β c v x (t + 1)) + ε)

/-- The decay `α`, the gain `β`, the starting variance and the guard `ε`, as their f32 words denote them. -/
def α₀ : EReal := Ideal.ofBits .f32 0x3F7D70A4#32
def β₀ : EReal := Ideal.ofBits .f32 0x3C23D70A#32
def v₀ : EReal := Ideal.ofBits .f32 0x44C80000#32
def ε₀ : EReal := Ideal.ofBits .f32 0x2B8CBCCC#32

/-- `α` and `β` as reals. -/
def αr : ℝ := 16609444 / 16777216
def βr : ℝ := 10737418 / 1073741824

theorem α₀_eq : α₀ = (αr : EReal) := by
  unfold α₀ αr; simp [Ideal.ofBits, Ideal.ieee, -EReal.coe_mul]; norm_num
theorem β₀_eq : β₀ = (βr : EReal) := by
  unfold β₀ βr; simp [Ideal.ofBits, Ideal.ieee, -EReal.coe_mul]; norm_num
theorem αr_nonneg : 0 ≤ αr := by unfold αr; norm_num

/-- The samples of batch entry `b` and feature `f`. -/
def samples (A : Vec Ideal ⟨3, ![32, 4096, 481]⟩ .f32) (b : Fin 32) (f : Fin 481) (t : ℕ) : EReal :=
  if h : t < 4096 then A (ix3 b ⟨t, h⟩ f) else 0

/-- The result at batch entry `b`, time `t` and feature `f`, of the samples `A` and the starting means `M`. -/
def result (A : Vec Ideal ⟨3, ![32, 4096, 481]⟩ .f32) (M : Vec Ideal ⟨2, ![32, 481]⟩ .f32) (b : Fin 32) (t : Fin 4096)
    (f : Fin 481) : EReal :=
  normed α₀ β₀ (M (ix2 b f)) v₀ ε₀ (samples A b f) t.val

end Cert.Ema
-- ==== Proof.Tile.lean ====
/-
  One tile over the extended reals. With the table `U` holding the samples' weights and `a` the powers of the decay,
  the tile's matrix product and carried column are the running mean itself (`Ema.ema_tile`), row by row; the squared
  deviations through the same product are the running variance; so what tile `n` writes at time `s` of the tile is the
  normalised sample `256 n + s`.
-/
module

public import proofs.«01_k».proof.Proof.Body
public import proofs.«01_k».proof.Proof.Spec

@[expose] public section

set_option maxRecDepth 16384

noncomputable section

open Idealize.ShloMosaic Idealize.ShloMosaic.TcCoe Idealize.SL.Sem
open Cert.Ema

namespace Cert.KernelIdeal.Body

open Cert.KernelIdeal Cert.KernelIdeal.Gen

/-- The row of the flattened tile that holds feature `p` of the block and batch entry `q`. -/
def row (p : Fin 13) (q : Fin 32) : Fin 416 := ⟨p.val * 32 + q.val, by omega⟩

section Payloads

variable (U : Vec Ideal S256x256 .f32) (a : Vec Ideal S1x256 .f32) (X : Vec Ideal S13x32x256 .f32)
  (c v : Vec Ideal S416x1 .f32) (p : Fin 13) (q : Fin 32) (s : Fin 256) (r : Fin 416)

theorem pay2_apply (m0 : Vec Ideal S1x416x1 .f32) : k0_pay2 m0 (ix2 r 0) = m0 (ix3 0 r 0) := by
  unfold k0_pay2; pointwise

theorem pay3_apply : k0_pay3 (F := Ideal) (ix2 r 0) = v₀ := by
  unfold k0_pay3 v₀; pointwise

theorem pay6_apply : k0_pay6 X (ix2 (row p q) s) = X (ix3 p q s) := by
  unfold k0_pay6 row; pointwise

/-- The mean tile: the power of the decay on the carried column, plus the weighted samples. -/
theorem pay7_apply : k0_pay7 U a X c (ix2 (row p q) s)
    = a (ix2 0 s) * c (ix2 (row p q) 0) + ∑ i : Fin 256, X (ix3 p q i) * U (ix2 i s) := by
  unfold k0_pay7 k0_pay4 k0_pay5
  pointwise
  simp only [pay6_apply]

theorem pay8_apply : k0_pay8 U a X c (ix2 (row p q) s) = X (ix3 p q s) - k0_pay7 U a X c (ix2 (row p q) s) := by
  unfold k0_pay8
  pointwise
  rw [pay6_apply]

/-- The variance tile: the same of the squared deviations. -/
theorem pay9_apply : k0_pay9 U a X c v (ix2 (row p q) s)
    = a (ix2 0 s) * v (ix2 (row p q) 0)
      + ∑ i : Fin 256, k0_pay8 U a X c (ix2 (row p q) i) * k0_pay8 U a X c (ix2 (row p q) i) * U (ix2 i s) := by
  unfold k0_pay9 k0_pay4 k0_pay5
  pointwise

theorem pay10_apply : k0_pay10 U a X c v (ix3 p q s)
    = Ideal.div (k0_pay8 U a X c (ix2 (row p q) s)) (Ideal.sqrt (k0_pay9 U a X c v (ix2 (row p q) s)) + ε₀) := by
  unfold k0_pay10 row ε₀
  pointwise

theorem pay11_apply : k0_pay11 U a X c (ix2 r 0) = k0_pay7 U a X c (ix2 r 255) := by
  unfold k0_pay11; pointwise

theorem pay12_apply (w : FVec Ideal S416x256 .f32) : k0_pay12 w (ix2 r 0) = w (ix2 r 255) := by
  unfold k0_pay12; pointwise

end Payloads

/-- The samples of feature `p` of the block and batch entry `q`. -/
def smp (x : Vec Ideal S13x32x4096 .f32) (p : Fin 13) (q : Fin 32) (t : ℕ) : EReal :=
  if h : t < 4096 then x (ix3 p q ⟨t, h⟩) else 0

theorem tileIn_smp (x : Vec Ideal S13x32x4096 .f32) (n : ℕ) (hn : n < 16) (p : Fin 13) (q : Fin 32) (s : Fin 256) :
    tileIn x n (ix3 p q s) = smp x p q (256 * n + s.val) := by
  have h : 256 * n + s.val < 4096 := by omega
  rw [tileIn_apply x n hn, smp, dif_pos h]

section Tile

variable (x : Vec Ideal S13x32x4096 .f32) (m0 : Vec Ideal S1x416x1 .f32) (U : Vec Ideal S256x256 .f32)
  (a : Vec Ideal S1x256 .f32) (hU : ∀ i s : Fin 256, U (ix2 i s) = weight αr βr i.val s.val)
  (ha : ∀ s : Fin 256, a (ix2 0 s) = (αr : EReal) ^ (s.val + 1)) (p : Fin 13) (q : Fin 32)

/-- The starting mean of the pair. -/
abbrev c0 : EReal := m0 (ix3 0 (row p q) 0)

include hU ha

/-- A carried column that is the running mean makes the mean tile the running mean. -/
theorem mean_of_col (n : ℕ) (hn : n < 16) (c : Vec Ideal S416x1 .f32)
    (hc : c (ix2 (row p q) 0) = ema αr βr (c0 m0 p q) (smp x p q) (256 * n)) (s : Fin 256) :
    k0_pay7 U a (tileIn x n) c (ix2 (row p q) s) = ema αr βr (c0 m0 p q) (smp x p q) (256 * n + s.val + 1) := by
  rw [pay7_apply, hc, ha, add_assoc, ema_add, ema_tile αr_nonneg _ _ s.isLt]
  congr 1
  refine Finset.sum_congr rfl fun i _ => ?_
  rw [hU, tileIn_smp x n hn]

/-- The mean's column before tile `n` is the running mean after `256 n` samples. -/
theorem muCol_eq : ∀ n, n ≤ 16 → muCol x m0 U a n (ix2 (row p q) 0) = ema αr βr (c0 m0 p q) (smp x p q) (256 * n)
  | 0, _ => pay2_apply _ m0
  | n + 1, h => by
    show k0_pay11 U a (tileIn x n) (muCol x m0 U a n) (ix2 (row p q) 0) = _
    rw [pay11_apply, mean_of_col x m0 U a hU ha p q n h _ (muCol_eq n (Nat.le_of_succ_le h))]
    rfl

theorem dev_tile (n : ℕ) (hn : n < 16) (s : Fin 256) :
    k0_pay8 U a (tileIn x n) (muCol x m0 U a n) (ix2 (row p q) s)
      = dev αr βr (c0 m0 p q) (smp x p q) (256 * n + s.val) := by
  rw [pay8_apply, mean_of_col x m0 U a hU ha p q n hn _ (muCol_eq x m0 U a hU ha p q n hn.le), tileIn_smp x n hn, dev]

/-- A carried column that is the running variance makes the variance tile the running variance. -/
theorem var_of_col (n : ℕ) (hn : n < 16) (v : Vec Ideal S416x1 .f32)
    (hv : v (ix2 (row p q) 0) = var αr βr (c0 m0 p q) v₀ (smp x p q) (256 * n)) (s : Fin 256) :
    k0_pay9 U a (tileIn x n) (muCol x m0 U a n) v (ix2 (row p q) s)
      = var αr βr (c0 m0 p q) v₀ (smp x p q) (256 * n + s.val + 1) := by
  rw [pay9_apply, hv, ha, add_assoc, var, var, ema_add, ema_tile αr_nonneg _ _ s.isLt]
  congr 1
  refine Finset.sum_congr rfl fun i _ => ?_
  rw [hU, dev_tile x m0 U a hU ha p q n hn]

theorem varCol_eq : ∀ n, n ≤ 16 →
    varCol x m0 U a n (ix2 (row p q) 0) = var αr βr (c0 m0 p q) v₀ (smp x p q) (256 * n)
  | 0, _ => pay3_apply _
  | n + 1, h => by
    show k0_pay12 (k0_pay9 U a (tileIn x n) (muCol x m0 U a n) (varCol x m0 U a n)) (ix2 (row p q) 0) = _
    rw [pay12_apply, var_of_col x m0 U a hU ha p q n h _ (varCol_eq n (Nat.le_of_succ_le h))]
    rfl

/-- What tile `n` writes is the normalised samples of its time steps. -/
theorem tileOut_eq (n : ℕ) (hn : n < 16) (s : Fin 256) :
    tileOut x m0 U a n (ix3 p q s) = normed αr βr (c0 m0 p q) v₀ ε₀ (smp x p q) (256 * n + s.val) := by
  unfold tileOut
  rw [pay10_apply, dev_tile x m0 U a hU ha p q n hn,
    var_of_col x m0 U a hU ha p q n hn _ (varCol_eq x m0 U a hU ha p q n hn.le), normed]

end Tile

end Cert.KernelIdeal.Body
-- ==== Proof.Array.lean ====
/-
  The kernel's result array over the extended reals. The host prefix leaves the weights and powers in the table
  operands, the samples feature-major and the starting means blocked by grid point; grid point `t` writes the
  normalised samples of features `13 t … 13 t + 12`; the 37 blocks fill the array, and the host's last transpose
  returns it batch-major.
-/
module

public import proofs.«01_k».proof.Proof.Tile
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.Ema

namespace Cert.KernelIdeal.Arr

open Cert.KernelIdeal Cert.KernelIdeal.Gen Cert.KernelIdeal.Body

variable (m : (ℓ : Loc nD τ sig) → Buf (Elt Ideal) ℓ) (ρ : Dev nD → PrngReg)

/-- The samples operand is the first argument, feature-major. -/
theorem V_samples (c : Dev nD) (f : Fin 481) (b : Fin 32) (t : Fin 4096) :
    (V m c main_v22 : Vec Ideal S481x32x4096 .f32) (ix3 f b t)
      = (m ((c : Thread nD τ).loc main_arg0) : Vec Ideal S32x4096x481 .f32) (ix3 b t f) := by
  unfold V
  after_reads_at

/-- The means operand holds, for grid point `g`, the starting means of features `13 g … 13 g + 12`, a row each pair. -/
theorem V_means (c : Dev nD) (g : Fin 37) (p : Fin 13) (q : Fin 32) :
    (V m c main_v24 : Vec Ideal S37x416x1 .f32) (ix3 g (row p q) 0)
      = (m ((c : Thread nD τ).loc main_arg1) : Vec Ideal S32x481 .f32) (ix2 q ⟨13 * g.val + p.val, by omega⟩) := by
  unfold V row
  after_reads_at
  refine congrArg (fun f : Fin 481 => (m (c.tc.loc main_arg1) : Vec Ideal S32x481 .f32) (ix2 q f)) (Fin.ext ?_)
  show g.val * 13 + (p.val * 32 + q.val) / 32 = 13 * g.val + p.val
  omega

/-- A natural power by the host's power of the decay's word. -/
theorem pow_word (k : ℕ) : Ideal.pow α₀ ((k : ℝ) : EReal) = (αr : EReal) ^ k := by
  rw [α₀_eq, Ideal.pow_coe_coe]
  show ((αr ^ (k : ℝ) : ℝ) : EReal) = _
  rw [Real.rpow_natCast, EReal.coe_pow]

/-- The word of a difference of two small indices, as a number. -/
theorem toInt_diff (s i : ℕ) (hs : s < 512) (hi : i < 512) :
    (IntOp.subi (BitVec.ofNat 32 s) (BitVec.ofNat 32 i)).toInt = (s : ℤ) - i := by
  show (BitVec.ofNat 32 s - BitVec.ofNat 32 i).toInt = _
  rw [BitVec.toInt_sub, BitVec.toInt_ofNat', BitVec.toInt_ofNat', Int.bmod_eq_of_le (n := (s : ℤ)) (by omega) (by omega),
    Int.bmod_eq_of_le (n := (i : ℤ)) (by omega) (by omega), Int.bmod_eq_of_le (by omega) (by omega)]

/-- A small index's word, as a number. -/
theorem toInt_word (s : ℕ) (hs : s < 512) : (BitVec.ofNat 32 s).toInt = s := by
  rw [BitVec.toInt_ofNat']
  exact Int.bmod_eq_of_le (by omega) (by omega)

/-- A word's number, as the conversion to a float denotes it. -/
theorem sitofp_word (w : BitVec 32) (k : ℤ) (h : w.toInt = k) :
    FloatOps.sitofp (F := Ideal) .f32 w = (((k : ℤ) : ℝ) : EReal) := by
  subst h; rfl

/-- The powers operand: the decay to the power of the time step within the tile, counted from one. -/
theorem V_powers (c : Dev nD) (s : Fin 256) :
    (V m c main_v21 : Vec Ideal S1x256 .f32) (ix2 0 s) = (αr : EReal) ^ (s.val + 1) := by
  unfold V
  after_reads_at
  rw [id_eq]
  pointwise
  rw [sitofp_word _ _ (toInt_word s.val (by omega)), ← pow_word]
  congr 1
  push_cast
  rfl

/-- The word of `s - i` is nonnegative exactly when `i ≤ s`. -/
theorem sge_word (i s : Fin 256) :
    IntOp.cmpi CmpIPredicate.sge (IntOp.subi (BitVec.ofNat 32 s.val) (BitVec.ofNat 32 i.val)) 0#32 = if i.val ≤ s.val then 1#1 else 0#1 := by
  have h := toInt_diff s.val i.val (by omega) (by omega)
  have e : ∀ w : BitVec 32, IntOp.cmpi CmpIPredicate.sge w 0#32 = if 0 ≤ w.toInt then 1#1 else 0#1 := by
    intro w
    show BitVec.ofBool (decide ((0#32).toInt ≤ w.toInt)) = _
    rw [show (0#32).toInt = 0 from rfl]
    by_cases h0 : 0 ≤ w.toInt
    · rw [decide_eq_true h0, if_pos h0]; rfl
    · rw [decide_eq_false h0, if_neg h0]; rfl
  rw [e, h]
  by_cases hle : i.val ≤ s.val
  · rw [if_pos (by omega), if_pos hle]
  · rw [if_neg (by omega), if_neg hle]

/-- The weights operand. -/
theorem V_weights (c : Dev nD) (i s : Fin 256) :
    (V m c main_v14 : Vec Ideal S256x256 .f32) (ix2 i s) = weight αr βr i.val s.val := by
  unfold V
  after_reads_at
  rw [sge_word]
  unfold weight
  split
  · rename_i hle
    show Ideal.ofBits FTy.f32 1008981770#32 * _ = _
    rw [sitofp_word _ ((s.val - i.val : ℕ) : ℤ) (by rw [toInt_diff _ _ (by omega) (by omega)]; omega)]
    rw [show ((((s.val - i.val : ℕ) : ℤ) : ℝ) : EReal) = (((s.val - i.val : ℕ) : ℝ) : EReal) from by norm_cast]
    exact congrArg₂ (· * ·) β₀_eq (pow_word _)
  · show Ideal.ofBits .f32 0#32 = 0
    exact Ideal.ofBits_zero_f32

theorem idx (t : Fin cfg0.N) : win0_0.index t = ![t.val, 0, 0] ∧ win0_1.index t = ![t.val, 0, 0]
    ∧ win0_2.index t = ![0, 0] ∧ win0_3.index t = ![0, 0] ∧ win0_4.index t = ![t.val, 0, 0] := by
  revert t; decide +kernel

theorem N_lt (t : Fin cfg0.N) : t.val < 37 := lt_of_lt_of_eq t.isLt N_0

theorem iblk_weights (c : Dev nD) (t : Fin cfg0.N) (i s : Fin 256) :
    (iblk m c 2 t : Vec Ideal S256x256 .f32) (ix2 i s) = (V m c main_v14 : Vec Ideal S256x256 .f32) (ix2 i s) := by
  blk_ext [iblk, idx t]

theorem iblk_powers (c : Dev nD) (t : Fin cfg0.N) (s : Fin 256) :
    (iblk m c 3 t : Vec Ideal S1x256 .f32) (ix2 0 s) = (V m c main_v21 : Vec Ideal S1x256 .f32) (ix2 0 s) := by
  blk_ext [iblk, idx t]

theorem iblk_means (c : Dev nD) (t : Fin cfg0.N) (r : Fin 416) :
    (iblk m c 1 t : Vec Ideal S1x416x1 .f32) (ix3 0 r 0)
      = (V m c main_v24 : Vec Ideal S37x416x1 .f32) (ix3 ⟨t.val, N_lt t⟩ r 0) := by
  blk_ext [iblk, idx t]

theorem iblk_samples (c : Dev nD) (t : Fin cfg0.N) (p : Fin 13) (q : Fin 32) (s : Fin 4096) :
    (iblk m c 0 t : Vec Ideal S13x32x4096 .f32) (ix3 p q s)
      = (V m c main_v22 : Vec Ideal S481x32x4096 .f32) (ix3 ⟨13 * t.val + p.val, by have := N_lt t; omega⟩ q s) := by
  blk_ext [iblk, idx t]

theorem smp_eq (c : Dev nD) (t : Fin cfg0.N) (p : Fin 13) (q : Fin 32) :
    smp (iblk m c 0 t) p q
      = samples (m ((c : Thread nD τ).loc main_arg0)) q ⟨13 * t.val + p.val, by have := N_lt t; omega⟩ := by
  funext u
  unfold smp samples
  split
  · rw [iblk_samples, V_samples]
  · rfl

/-- The result array, feature-major, holds the normalised samples. -/
theorem arr_eq (c : Dev nD) : (dats m 0 c).arrAt 4 cfg0.N
    = fun i : S481x32x4096.Idx => result (m ((c : Thread nD τ).loc main_arg0)) (m ((c : Thread nD τ).loc main_arg1)) (i 1) (i 2) (i 0) := by
  refine (dats m 0 c).arrAt_eq_of_covers 4 _ (by decide +kernel) fun t hf y => ?_
  blk_simp
  rw [after0_4]
  obtain ⟨p, q, s, rfl⟩ : ∃ (p : Fin 13) (q : Fin 32) (s : Fin 4096), y = ix3 p q s := ⟨y 0, y 1, y 2, (ix3_eta y).symm⟩
  unfold outsAt0
  rw [out_apply, tileOut_eq (iblk m c 0 t) (iblk m c 1 t) (iblk m c 2 t) (iblk m c 3 t)
    (fun i s => (iblk_weights m c t i s).trans (V_weights m c i s))
    (fun s => (iblk_powers m c t s).trans (V_powers m c s)) p q _ (by omega)]
  rw [show 256 * (s.val / 256) + (⟨s.val % 256, Nat.mod_lt _ (by decide)⟩ : Fin 256).val = s.val from Nat.div_add_mod _ _]
  unfold c0 result
  rw [iblk_means, V_means, α₀_eq, β₀_eq, smp_eq]
  have e0 : (win0_4.blk t).view.emb (ix3 p q s) 0 = (⟨13 * t.val + p.val, by have := N_lt t; omega⟩ : Fin 481) :=
    Fin.ext (by blk_simp [(idx t).2.2.2.2]; show t.val * 13 + p.val = 13 * t.val + p.val; omega)
  have e1 : (win0_4.blk t).view.emb (ix3 p q s) 1 = q :=
    Fin.ext (by blk_simp [(idx t).2.2.2.2])
  have e2 : (win0_4.blk t).view.emb (ix3 p q s) 2 = s :=
    Fin.ext (by blk_simp [(idx t).2.2.2.2])
  rw [e0, e1, e2]

/-- The transposed result array, written by the one operation after the call. -/
theorem tail_eq (c : Dev nD) :
    (Pipeline.afterTail₀ cfgs (dats m) 0 (V0 m) [hostOps1] c main_v26 : Vec Ideal S32x4096x481 .f32)
      = fun i : S32x4096x481.Idx => result (m ((c : Thread nD τ).loc main_arg0)) (m ((c : Thread nD τ).loc main_arg1)) (i 0) (i 1) (i 2) := by
  have hv : (Pipeline.withArrays (cfgs 0).spec c (V0 m c) (fun w => (dats m 0 c).arrAt w (cfgs 0).N)
      (Proc.tc.devRef main_v25) : Vec Ideal S481x32x4096 .f32) = (dats m 0 c).arrAt 4 cfg0.N :=
    Pipeline.withArrays_arr spec0 (by decide) c _ _ 4
  rw [arr_eq] at hv
  unfold Pipeline.afterTail₀
  funext i
  obtain ⟨b, t, f, rfl⟩ : ∃ (b : Fin 32) (t : Fin 4096) (f : Fin 481), i = ix3 b t f := ⟨i 0, i 1, i 2, (ix3_eta i).symm⟩
  generalize Pipeline.withArrays (cfgs 0).spec c (V0 m c) (fun w => (dats m 0 c).arrAt w (cfgs 0).N) = W at hv ⊢
  have hr := congrFun hv (ix3 f b t)
  show StableHlo.after hostOps1 W (Proc.tc.devRef main_v26) (ix3 b t f) = _
  after_reads_at
  exact hr

/-- The run: the result buffer holds the normalised samples of the arguments, the arguments are unchanged. -/
theorem run : θ_run defs (onTc (τ := τ) (main (F := Ideal))) ⟨m, fun _ => 0, ρ⟩ fun r => ∀ c : Dev nD,
      (r.2.mem ((c.tc : Thread nD τ).loc main_v26) : Vec Ideal S32x4096x481 .f32)
          = (fun i : S32x4096x481.Idx =>
              result (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arr
-- ==== Proof.Ref.lean ====
/-
  The reference's result over the extended reals. Its loop takes one sample row per trip: the carried mean and
  variance after `n` trips are the recurrences of the first `n` samples, and row `t` of the carried output, once
  trip `t` has written it, is the normalised sample `t`.
-/
module

public import proofs.«01_k».proof.Proof.Spec
public import proofs.«01_k».proof.Proof.Gen.ReferenceIdeal.Run
public import Idealize.ShloMosaic.Lib.DynamicIndex

@[expose] public section

set_option maxRecDepth 16384

noncomputable section

open Idealize.ShloMosaic Idealize.ShloMosaic.TcCoe Idealize.SL.Sem Idealize.ShloMosaic.StableHlo
open Cert.Ema

namespace Cert.ReferenceIdeal.Loop

open Cert.ReferenceIdeal Cert.ReferenceIdeal.Gen Cert.ReferenceIdeal.Value

/-- The buffers the loop carries, after `n` trips over the arguments `A` (samples) and `M` (starting means). -/
structure Inv (A : Vec Ideal S32x4096x481 .f32) (M : Vec Ideal S32x481 .f32) (n : ℕ)
    (V : Valuation τ sig (Elt Ideal)) : Prop where
  counter : V (Proc.devRef .tc main_v3_1) = constantI S_ 32 (BitVec.ofNat 32 n)
  rows : ∀ (t : Fin 4096) (b : Fin 32) (f : Fin 481),
    (V (Proc.devRef .tc main_v3_0) : Vec Ideal S4096x32x481 .f32) (ix3 t b f) = A (ix3 b t f)
  mean : ∀ (b : Fin 32) (f : Fin 481),
    (V (Proc.devRef .tc main_v3_2) : Vec Ideal S32x481 .f32) (ix2 b f) = ema α₀ β₀ (M (ix2 b f)) (samples A b f) n
  variance : ∀ (b : Fin 32) (f : Fin 481),
    (V (Proc.devRef .tc main_v3_3) : Vec Ideal S32x481 .f32) (ix2 b f)
      = var α₀ β₀ (M (ix2 b f)) v₀ (samples A b f) n
  out : ∀ (t : Fin 4096) (b : Fin 32) (f : Fin 481), t.val < n →
    (V (Proc.devRef .tc main_v3_4) : Vec Ideal S4096x32x481 .f32) (ix3 t b f) = result A M b t f

/-- The row a trip reads and writes starts at the trip's number. -/
theorem start_eq (j : ℕ) (h : j < 4096) (k : Fin 3) :
    ((![(constantI S_ 32 (BitVec.ofNat 32 j) : (⟨S_, .i32⟩ : BufTy).Contents (Elt Ideal)),
        constantI S_ 32 0#32, constantI S_ 32 0#32] : Fin 3 → (⟨S_, .i32⟩ : BufTy).Contents (Elt Ideal))
      k (Shape.Idx.first h_S_)).toInt = (((![j, 0, 0] : Fin 3 → ℕ) k : ℕ) : ℤ) := by
  fin_cases k
  · exact toInt_ofNat_of_lt (by omega)
  · rfl
  · rfl

theorem rowFits (j : ℕ) (h : j < 4096) : S4096x32x481.Slices ![j, 0, 0] S1x32x481 :=
  ⟨rfl, fun a => by fin_cases a; exacts [(by show j + 1 ≤ 4096; omega), Nat.le_refl 32, Nat.le_refl 481]⟩

/-- A block put over row `j` shows at row `j` and nowhere else. -/
theorem putRow_apply (j : ℕ) (h : j < 4096) (x : Vec Ideal S4096x32x481 .f32) (u : Vec Ideal S1x32x481 .f32)
    (start : Fin 3 → ℤ) (hs : ∀ k, start k = (((![j, 0, 0] : Fin 3 → ℕ) k : ℕ) : ℤ))
    (t : Fin 4096) (b : Fin 32) (f : Fin 481) :
    Host.dynamicUpdateSlice x u start updateFits_S4096x32x481_S1x32x481 (ix3 t b f)
      = if t.val = j then u (ix3 0 b f) else x (ix3 t b f) := by
  have e : ∀ (off : Fin 3 → ℕ) (fits : S4096x32x481.Slices off S1x32x481), (∀ k, start k = (off k : ℤ)) →
      Host.dynamicUpdateSlice x u start updateFits_S4096x32x481_S1x32x481 = updateSlice x u off fits := by
    intro off fits ho
    have ha : (fun a => (min (max (start a) 0)
        ((S4096x32x481.size a - S1x32x481.size (a.cast updateFits_S4096x32x481_S1x32x481.1.symm) : ℕ) : ℤ)).toNat) = off :=
      funext fun a => by have := fits.2 a; rw [ho a]; omega
    subst ha
    rfl
  rw [e _ (rowFits j h) hs]
  unfold updateSlice
  by_cases ht : t.val = j
  · have hin : ∀ a : Fin 3, (![j, 0, 0] : Fin 3 → ℕ) a ≤ (ix3 t b f a).val
        ∧ (ix3 t b f a).val < (![j, 0, 0] : Fin 3 → ℕ) a + S1x32x481.size a := by
      intro a
      fin_cases a
      · exact ⟨by show j ≤ t.val; omega, by show t.val < j + 1; omega⟩
      · exact ⟨Nat.zero_le _, by show b.val < 0 + 32; omega⟩
      · exact ⟨Nat.zero_le _, by show f.val < 0 + 481; omega⟩
    rw [if_pos ht]
    refine (dif_pos hin).trans (congrArg u ?_)
    funext a
    fin_cases a
    · exact Fin.ext (by show t.val - j = 0; omega)
    · rfl
    · rfl
  · rw [if_neg ht]
    refine dif_neg fun hin => ht ?_
    have h0 : j ≤ t.val ∧ t.val < j + 1 := hin 0
    omega

section trip

variable {A : Vec Ideal S32x4096x481 .f32} {M : Vec Ideal S32x481 .f32} {n : ℕ} {V : Valuation τ sig (Elt Ideal)}

theorem sample_eq (h : Inv A M n V) (hn : n < 4096) (b : Fin 32) (f : Fin 481) :
    (res_main_while0b_v5 V : Vec Ideal S32x481 .f32) (ix2 b f) = samples A b f n := by
  unfold res_main_while0b_v5
  rw [h.counter, Host.dynamicSlice_eq_extractStridedSlice _ _ _ ![n, 0, 0] _ (rowFits n hn) (start_eq n hn)]
  pointwise
  unfold samples
  rw [dif_pos hn, ← h.rows]

theorem mean_eq (h : Inv A M n V) (hn : n < 4096) (b : Fin 32) (f : Fin 481) :
    (res_main_while0b_v10 V : Vec Ideal S32x481 .f32) (ix2 b f)
      = ema α₀ β₀ (M (ix2 b f)) (samples A b f) (n + 1) := by
  have hs := sample_eq h hn b f
  have hm := h.mean b f
  unfold res_main_while0b_v10
  generalize res_main_while0b_v5 V = s at hs
  pointwise
  rw [hs, hm]
  rfl

theorem dev_eq (h : Inv A M n V) (hn : n < 4096) (b : Fin 32) (f : Fin 481) :
    (subf (res_main_while0b_v5 V) (res_main_while0b_v10 V) : Vec Ideal S32x481 .f32) (ix2 b f)
      = dev α₀ β₀ (M (ix2 b f)) (samples A b f) n := by
  have hs := sample_eq h hn b f
  have hm := mean_eq h hn b f
  generalize res_main_while0b_v5 V = s at hs ⊢
  generalize res_main_while0b_v10 V = r at hm ⊢
  pointwise
  rw [hs, hm]
  rfl

theorem variance_eq (h : Inv A M n V) (hn : n < 4096) (b : Fin 32) (f : Fin 481) :
    (res_main_while0b_v17 V : Vec Ideal S32x481 .f32) (ix2 b f)
      = var α₀ β₀ (M (ix2 b f)) v₀ (samples A b f) (n + 1) := by
  have hd := dev_eq h hn b f
  have hv := h.variance b f
  unfold res_main_while0b_v17 res_main_while0b_v13
  generalize subf (res_main_while0b_v5 V) (res_main_while0b_v10 V) = d at hd ⊢
  pointwise
  rw [hd, hv]
  rfl

theorem normed_eq (h : Inv A M n V) (hn : n < 4096) (b : Fin 32) (f : Fin 481) :
    (Host.divf (subf (res_main_while0b_v5 V) (res_main_while0b_v10 V)) (addf (Host.sqrt (res_main_while0b_v17 V))
      (broadcastInDim S32x481 ![] bcast_S_S32x481 (constant S_ .f32 0x2B8CBCCC#32))) : Vec Ideal S32x481 .f32) (ix2 b f)
      = result A M b ⟨n, hn⟩ f := by
  have hd := dev_eq h hn b f
  have hv := variance_eq h hn b f
  generalize subf (res_main_while0b_v5 V) (res_main_while0b_v10 V) = d at hd ⊢
  generalize res_main_while0b_v17 V = v at hv ⊢
  pointwise
  rw [hd, hv]
  rfl

/-- One trip carries the invariant on. -/
theorem inv_step (h : Inv A M n V) (hn : n < 4096) : Inv A M (n + 1) (STEP V) where
  counter := by
    rw [STEP_main_v3_1]
    unfold step_main_v3_1
    rw [h.counter]
    funext i
    show BitVec.ofNat 32 n + BitVec.ofNat 32 1 = BitVec.ofNat 32 (n + 1)
    exact (BitVec.ofNat_add n 1).symm
  rows t b f := by rw [STEP_main_v3_0]; exact h.rows t b f
  mean b f := by rw [STEP_main_v3_2]; exact mean_eq h hn b f
  variance b f := by rw [STEP_main_v3_3]; exact variance_eq h hn b f
  out t b f ht := by
    have hz := normed_eq h hn b f
    rw [STEP_main_v3_4]
    unfold step_main_v3_4
    generalize Host.divf (subf (res_main_while0b_v5 V) (res_main_while0b_v10 V)) _ = z at hz ⊢
    rw [h.counter]
    refine (putRow_apply n hn _ _ _ (start_eq n hn) t b f).trans ?_
    split
    · next ht' =>
      obtain rfl : t = ⟨n, hn⟩ := Fin.ext ht'
      rw [← hz]
      pointwise
    · next ht' => exact h.out t b f (by omega)

end trip

variable (m : (ℓ : Loc nD τ sig) → Buf (Elt Ideal) ℓ) (ρ : Dev nD → PrngReg)

/-- Before the first trip: the arguments as they are, no output row claimed. -/
theorem inv_zero (c : Dev nD) : Inv (m ((c.tc : Thread nD τ).loc main_arg0)) (m ((c.tc : Thread nD τ).loc main_arg1)) 0
    (entryContents preI m c) := by
  constructor <;> intros <;> (simp only [entryContents, afterL_cons, afterL_nil]; after_reads_simp)
  · rfl
  · show transpose S4096x32x481 [1, 0, 2] (m ((c.tc : Thread nD τ).loc main_arg0) : Vec Ideal S32x4096x481 .f32) _ _ = _
    pointwise
  · rfl
  · rfl
  · omega

theorem inv_iter (c : Dev nD) (k : ℕ) (hk : k ≤ 4096) :
    Inv (m ((c.tc : Thread nD τ).loc main_arg0)) (m ((c.tc : Thread nD τ).loc main_arg1)) k
      (STEP^[k] (entryContents preI m c)) := by
  induction k with
  | zero => exact inv_zero m c
  | succ k ih => rw [Function.iterate_succ_apply']; exact inv_step (ih (by omega)) (by omega)

/-- The run: the result buffer holds the normalised samples of the arguments, the arguments are unchanged. -/
theorem run : θ_run defs (onTc (τ := τ) (main (F := Ideal))) ⟨m, fun _ => 0, ρ⟩ fun r => ∀ c : Dev nD,
      (r.2.mem ((c.tc : Thread nD τ).loc main_v4) : Vec Ideal S32x4096x481 .f32)
          = (fun i : S32x4096x481.Idx =>
              result (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨b, t, f, rfl⟩ : ∃ (b : Fin 32) (t : Fin 4096) (f : Fin 481), i = ix3 b t f := ⟨i 0, i 1, i 2, (ix3_eta i).symm⟩
  have ho := (inv_iter m c 4096 le_rfl).out t b f t.isLt
  generalize (STEP^[4096] (entryContents preI m c)) = V at ho ⊢
  unfold out_main_v4
  refine Eq.trans ?_ ho
  pointwise

end Cert.ReferenceIdeal.Loop

end
-- ==== Proof.lean ====
/-
  The certificate's claim. The frames come from the runs; the kernel and the reference, over the extended reals, both
  end with `Cert.Ema.result` of their arguments in the result buffer (Proof/Array.lean, Proof/Ref.lean).
-/
module

public import proofs.«01_k».proof.Defs
public import proofs.«01_k».proof.Proof.Gen.Kernel
public import proofs.«01_k».proof.Proof.Gen.Kernel.Frame
public import proofs.«01_k».proof.Proof.Array
public import proofs.«01_k».proof.Proof.Ref
public import Idealize.ShloMosaic.Lib.Quiescent

@[expose] public section

noncomputable section

namespace Cert.Proof

open Idealize.ShloMosaic Idealize.ShloMosaic.TcCoe Idealize.SL.Sem

theorem reference_frame : Cert.quiescent_ReferenceIdeal := fun m ρ _ =>
  (θ_run _ _ _).mono (fun r h => ⟨fun c => (h c).2, sem_eq_zero_of_no_sems (by decide) r.2⟩)
    (Cert.ReferenceIdeal.Loop.run m ρ)

/-- From equal arguments both result buffers hold the same normalised samples. -/
theorem equal_results : Cert.algebraic_KernelIdeal_ReferenceIdeal := by
  intro m ρ m' ρ' _ hagree
  refine ⟨_, Cert.KernelIdeal.Arr.run m ρ, ?_⟩
  refine (θ_run _ _ _).mono (fun r h c => ?_) (Cert.ReferenceIdeal.Loop.run m' ρ')
  obtain ⟨hv, hargs⟩ := h c
  rw [(hagree c).1, (hagree c).2] at hv
  exact ⟨hv, hargs⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
